-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S8192 : Shape := ⟨1, ![8192]⟩
abbrev S64x128 : Shape := ⟨2, ![64, 128]⟩
abbrev S1024x8192 : Shape := ⟨2, ![1024, 8192]⟩
abbrev S32x128 : Shape := ⟨2, ![32, 128]⟩
abbrev S256x8192 : Shape := ⟨2, ![256, 8192]⟩
abbrev S256x128 : Shape := ⟨2, ![256, 128]⟩
abbrev S256 : Shape := ⟨1, ![256]⟩
abbrev S1024 : Shape := ⟨1, ![1024]⟩
abbrev S8x128 : Shape := ⟨2, ![8, 128]⟩
abbrev S4096 : Shape := ⟨1, ![4096]⟩
abbrev S4096x64 : Shape := ⟨2, ![4096, 64]⟩
abbrev S4096x128 : Shape := ⟨2, ![4096, 128]⟩
abbrev S4096x1 : Shape := ⟨2, ![4096, 1]⟩

abbrev nBuf : Space → Nat
  | .hbm => 6
  | .vmem => 5
  | .smem => 0
  | _ => 0

abbrev bufTy : (tb : Table) → Fin (tcTables nBuf tb) → BufTy
  | .hbm, ⟨0, _⟩ => ⟨S4096x8192, .i1⟩
  | .hbm, ⟨1, _⟩ => ⟨S8192, .f32⟩
  | .hbm, ⟨2, _⟩ => ⟨S4096x8192, .i8⟩
  | .hbm, ⟨3, _⟩ => ⟨S64x128, .f32⟩
  | .hbm, ⟨4, _⟩ => ⟨S64x128, .f32⟩
  | .hbm, ⟨5, _⟩ => ⟨S8192, .f32⟩
  | .local _ .vmem, ⟨0, _⟩ => ⟨S1024x8192, .i8⟩
  | .local _ .vmem, ⟨1, _⟩ => ⟨S1024x8192, .i8⟩
  | .local _ .vmem, ⟨2, _⟩ => ⟨S64x128, .f32⟩
  | .local _ .vmem, ⟨3, _⟩ => ⟨S64x128, .f32⟩
  | .local _ .vmem, ⟨4, _⟩ => ⟨S32x128, .i32⟩
  | _, _ => ⟨S4096x8192, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c8_i32_7 : BitVec 32 := 8#32
  let v152 : BitVec 32 := Scalar.muli arg0 c8_i32_7
  let v153 : Index := Scalar.indexCast v152
  let c0_8 : Index := 0#32
  ![v153.toNat, 0]
def k0_cond1 (i : grid0.Coords) : BitVec 1 :=
  let arg0 : BitVec 32 := BitVec.ofNat 32 (i 0).val
  let c3_i32 : BitVec 32 := 3#32
  let v157 : BitVec 1 := Scalar.cmpi .eq arg0 c3_i32
  let v158 : BitVec 32 := Scalar.extui v157
  let c0_i32_9 : BitVec 32 := 0#32
  let v159 : BitVec 1 := Scalar.cmpi .ne v158 c0_i32_9
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x8192 : Shape := ⟨2, ![4096, 8192]⟩
abbrev S8192 : Shape := ⟨1, ![8192]⟩
abbrev S_ : Shape := ⟨0, ![]⟩
abbrev S4096 : Shape := ⟨1, ![4096]⟩
abbrev S8193 : Shape := ⟨1, ![8193]⟩
abbrev S4096x1 : Shape := ⟨2, ![4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x8192, .i1⟩
  | .hbm, ⟨1, _⟩ => ⟨S8192, .f32⟩
  | .hbm, ⟨2, _⟩ => ⟨S4096x8192, .i32⟩
  | .hbm, ⟨3, _⟩ => ⟨S_, .i32⟩
  | .hbm, ⟨4, _⟩ => ⟨S4096, .i32⟩
  | .hbm, ⟨5, _⟩ => ⟨S_, .i32⟩
  | .hbm, ⟨6, _⟩ => ⟨S8193, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S_, .i32⟩
  | .hbm, ⟨20, _⟩ => ⟨S4096, .i32⟩
  | .hbm, ⟨21, _⟩ => ⟨S8193, .i32⟩
  | .hbm, ⟨22, _⟩ => ⟨S8192, .i32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | _, _ => ⟨S4096x8192, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.Body.lean ====
/- The kernel body's two runs, with what they leave named. -/
module

public import proofs.«01_k».proof.Proof.Gen.KernelIdeal.Frame
public import proofs.«01_k».proof.Proof.Gen.KernelIdeal.Skeleton
public import Idealize.ShloMosaic.Lib.Claim
public import Idealize.ShloMosaic.Lib.WritesUnit
public import Idealize.ShloMosaic.Lib.VecWindow
public import Idealize.ShloMosaic.Lib.ValueIdxCore

@[expose] public section

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows' lengths that one block of the mask gives: 1024 words in an 8 × 128 tile. -/
def tile (x : Vec F S1024x8192 .i8) : Vec F S8x128 .i32 :=
  k0_pay7 (k0_pay2 x) (k0_pay5 (k0_pay2 x) (k0_pay3 x) (k0_pay4 x)) (k0_pay6 (k0_pay2 x))

attribute [local irreducible] k0_pay1 k0_pay2 k0_pay3 k0_pay4 k0_pay5 k0_pay6 k0_pay7

/-- The scratch `s` with the tile `b` laid over its rows `8 n` to `8 n + 7`. -/
def stamp (n : ℕ) (b : Vec F S8x128 .i32) (s : Vec F S32x128 .i32) : Vec F S32x128 .i32 := fun j =>
  if h : 8 * n ≤ (j 0).val ∧ (j 0).val < 8 * n + 8 then b (ValueIdx.ix2 ⟨(j 0).val - 8 * n, by omega⟩ (j 1)) else s j

/-- The store's offsets at a grid point, in closed form. -/
theorem off_eq (i : grid0.Coords) : k0_off1 i = ![8 * (i 0).val, 0] := by
  have h : (i 0).val < 4 := (i 0).isLt
  unfold k0_off1
  funext a
  match a with
  | ⟨0, _⟩ =>
    show (Scalar.indexCast (Scalar.muli (BitVec.ofNat 32 (i 0).val) 8#32)).toNat = 8 * (i 0).val
    simp only [Scalar.indexCast, Scalar.muli, IntOp.muli, BitVec.toNat_mul, BitVec.toNat_ofNat]
    omega
  | ⟨1, _⟩ => rfl

/-- Reading the scratch after the point's store is the scratch with the tile laid over it. -/
theorem read_stamp {κ : Kind} {sp : Space} (v : View sig κ sp S32x128 .i32) (f : v.ty.Contents (Elt F)) (i : grid0.Coords)
    (inb : ∀ a, k0_off1 i a + S8x128.size a ≤ S32x128.size a) (b : Vec F S8x128 .i32) (s : Vec F S32x128 .i32)
    (hs : v.read (Elt F) f = s) :
    v.read (Elt F) (v.writes (Elt F) f [⟨Rect.unit (k0_off1 i) S8x128.size inb, b⟩]) = stamp (i 0).val b s := by
  funext j
  unfold stamp
  split
  · rename_i h
    refine View.read_writes_cons_rows_of_mem v f inb b [] j (ValueIdx.ix2 ⟨(j 0).val - 8 * (i 0).val, by omega⟩ (j 1)) (off_eq i) ?_ rfl
    show (j 0).val = 8 * (i 0).val + ((j 0).val - 8 * (i 0).val)
    omega
  · rename_i h
    rw [← hs]
    exact View.read_writes_cons_rows_of_not_mem v f inb b [] j (W := 8) (off_eq i) rfl (by omega)

set_option maxHeartbeats 1000000 in
/-- Before the last point: the tile of this block goes into the scratch, and nothing else changes. -/
theorem run_skip (c : Dev nD) (i : grid0.Coords) (arg1 : Memref sig .tc .vmem S1024x8192 .i8) (harg1 : arg1.IsWhole)
    (arg2 : Memref sig .tc .vmem S64x128 .f32) (harg2 : arg2.IsWhole) (arg3 : Memref sig .tc .vmem S64x128 .f32) (harg3 : arg3.IsWhole)
    (arg4 : Memref sig .tc .vmem S32x128 .i32) (harg4 : arg4.IsWhole) (hc0 : ¬ k0_cond1 i = 1#1)
    (x0 : Vec F S1024x8192 .i8) (x1 x2 : Vec F S64x128 .f32) (s : Vec F S32x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare s
        ∗ (iprop(owns (c : Thread nD τ) arg1 fullShare x0 ∗ owns (c : Thread nD τ) arg2 fullShare x1 ∗ owns (c : Thread nD τ) arg3 fullShare x2 ∗ owns (c : Thread nD τ) arg4 fullShare (stamp (i 0).val (tile x0) s)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%fs0, %hs, HS0⟩, Hk⟩
  obtain rfl := harg1.eq_unread hf0; obtain rfl := harg2.eq_unread hf1
  obtain rfl := harg3.eq_unread hf2; obtain rfl := harg4.eq_unread hs
  sl_exec (disch := first | sl_exact hc0)
  sl_step
  have hl : arg1.view.readAt (Elt F) (Rect.unit (s := S1024x8192) ![0, 0] S1024x8192.size inb_S1024x8192_S1024x8192_0_0).toLoadRect (harg1.unread x0) = x0 :=
    (View.readAt_full ..).trans hf0
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact harg3.read_unread _
  iexists _; isplitr; swap; · iexact HS0
  ipureintro
  refine (read_stamp _ _ i _ _ s hs).trans ?_
  delta run_skip.sl.r run_skip.sl.r_3 run_skip.sl.r_4 run_skip.sl.r_1 run_skip.sl.r_2
  rw [hl]
  rfl

set_option maxHeartbeats 1000000 in
/-- At the last point: the tile goes into the scratch, and the result block is computed from the whole scratch. -/
theorem run_last (c : Dev nD) (i : grid0.Coords) (arg1 : Memref sig .tc .vmem S1024x8192 .i8) (harg1 : arg1.IsWhole)
    (arg2 : Memref sig .tc .vmem S64x128 .f32) (harg2 : arg2.IsWhole) (arg3 : Memref sig .tc .vmem S64x128 .f32) (harg3 : arg3.IsWhole)
    (arg4 : Memref sig .tc .vmem S32x128 .i32) (harg4 : arg4.IsWhole) (hc0 : k0_cond1 i = 1#1)
    (x0 : Vec F S1024x8192 .i8) (x1 x2 : Vec F S64x128 .f32) (s : Vec F S32x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare s
        ∗ (iprop(owns (c : Thread nD τ) arg1 fullShare x0 ∗ owns (c : Thread nD τ) arg2 fullShare x1 ∗ owns (c : Thread nD τ) arg3 fullShare (k0_pay1 (stamp (i 0).val (tile x0) s) x1) ∗ owns (c : Thread nD τ) arg4 fullShare (stamp (i 0).val (tile x0) s)) -∗ K ⟨⟩))
      ⊢ wp frame (wpE (defs₀ (F := F)) Variants.none c none) E (cc0__body i arg1 harg1 arg2 harg2 arg3 harg3 arg4 harg4) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%fs0, %hs, HS0⟩, Hk⟩
  obtain rfl := harg1.eq_unread hf0; obtain rfl := harg2.eq_unread hf1
  obtain rfl := harg3.eq_unread hf2; obtain rfl := harg4.eq_unread hs
  sl_exec (disch := first | sl_exact hc0)
  sl_step
  have hl : arg1.view.readAt (Elt F) (Rect.unit (s := S1024x8192) ![0, 0] S1024x8192.size inb_S1024x8192_S1024x8192_0_0).toLoadRect (harg1.unread x0) = x0 :=
    (View.readAt_full ..).trans hf0
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    delta run_last.sl.v160
    delta run_last.sl.HS0_1
    rw [View.readAt_full, View.readAt_full, hf1]
    refine congrArg (fun y => k0_pay1 y x1) ((read_stamp _ _ i _ _ s hs).trans ?_)
    delta run_last.sl.r run_last.sl.r_3 run_last.sl.r_4 run_last.sl.r_1 run_last.sl.r_2
    rw [hl]
    rfl
  iexists _; isplitr; swap; · iexact HS0
  ipureintro
  refine (read_stamp _ _ i _ _ s hs).trans ?_
  delta run_last.sl.r run_last.sl.r_3 run_last.sl.r_4 run_last.sl.r_1 run_last.sl.r_2
  rw [hl]
  rfl

end Cert.KernelIdeal.Hist

end
-- ==== Proof.Launch.lean ====
/- The launch of the kernel: what the scratch holds between grid points, what the result block holds, and the run. -/
module

public import proofs.«01_k».proof.Proof.Body
public import Idealize.ShloMosaic.Lib.Pipeline.FrameSuffix

@[expose] public section

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the result hold -/

/-- The grid point of number `n` (numbers past the grid wrap around). -/
def pt (n : ℕ) : Fin cfg0.N := ⟨n % 4, lt_of_lt_of_eq (Nat.mod_lt n (by decide)) (show 4 = cfg0.N from N_0.symm)⟩

/-- The whole scratch once every point has stored its tile. -/
def lens (c : Dev nD) : Vec F S32x128 .i32 := fun j =>
  tile (iblk m c 0 (pt ((j 0).val / 8))) (ValueIdx.ix2 ⟨(j 0).val % 8, Nat.mod_lt _ (by decide)⟩ (j 1))

/-- Before point `t` the scratch's first `8 t` rows are already those of `lens`. -/
def Filled (c : Dev nD) (t : ℕ) (d : Vec F S32x128 .i32) : Prop := ∀ j, (j 0).val < 8 * t → d j = lens m c j

/-- A point's store extends the filled rows by its tile. -/
theorem filled_stamp (c : Dev nD) (t : Fin cfg0.N) (d : Vec F S32x128 .i32) (h : Filled m c t.val d) :
    Filled m c (t.val + 1) (stamp t.val (tile (iblk m c 0 t)) d) := by
  intro j hj
  unfold stamp
  split
  · rename_i hb
    unfold lens
    have hN : t.val < 4 := lt_of_lt_of_eq t.isLt (show cfg0.N = 4 from N_0)
    have e : (j 0).val / 8 = t.val := by omega
    have ept : pt ((j 0).val / 8) = t := Fin.ext (by show (j 0).val / 8 % 4 = t.val; omega)
    rw [ept]
    congr 2
    exact Fin.ext (by show (j 0).val - 8 * t.val = (j 0).val % 8; omega)
  · rename_i hb
    exact h j (by omega)

/-- Once all four tiles are in, the scratch is `lens`. -/
theorem filled_all (c : Dev nD) (n : ℕ) (hn : 4 ≤ n) (d : Vec F S32x128 .i32) (h : Filled m c n d) : d = lens m c :=
  funext fun j => h j (by have : (j 0).val < 32 := (j 0).isLt; omega)

/-- The point's number is its grid coordinate. -/
theorem coord_eq (t : Fin cfg0.N) : (grid0.coords t 0).val = t.val := by
  have hN : t.val < 4 := lt_of_lt_of_eq t.isLt (show cfg0.N = 4 from N_0)
  have e : (grid0.coords t 0).val = t.val / 1 % 4 := Pipeline.Grid.coords_val t 0 (by decide) rfl
  omega

/-- The body's condition holds at the last point and nowhere else. -/
theorem cond_iff (t : Fin cfg0.N) : k0_cond1 (grid0.coords t) = 1#1 ↔ t.val % 4 = 3 := by
  have ht : t.val < 4 := lt_of_lt_of_eq t.isLt (show cfg0.N = 4 from N_0)
  have e0 : (grid0.coords t 0).val = t.val := coord_eq t
  simp only [k0_cond1, e0]
  word_cmp

/-! ## The proof data -/

/-- The scratch as a memref. -/
abbrev scM : Memref sig .tc .vmem S32x128 .i32 := Memref.whole cc0_scratch0

/-- The proof data: inputs are left as found, the result block is the histogram's combination with the prior, and between
    points the scratch's first rows are filled. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (lens m c) (iblk m c 1 t)
  Φ t := iprop((∃ d, ⌜Filled m c t.val d⌝ ∗ owns (c : Thread nD τ) scM fullShare d) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (lens m c) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The scratch and the generator register, as the launch deals them. -/
theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

theorem Phi_eq (c : Dev nD) (t : Fin (cfg0.N + 1)) : (dats m 0 c).Φ t
    = iprop((∃ d, ⌜Filled m c t.val d⌝ ∗ owns (c : Thread nD τ) scM fullShare d) ∗ (∃ r, prngReg c r)) := rfl

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

attribute [local irreducible] k0_pay1 tile

set_option maxHeartbeats 800000 in
/-- The body runs at every point: before the last it fills rows of the scratch and leaves the result's buffer alone, at the
    last it completes the scratch and stores the result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl, Phi_eq, Phi_eq]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  have hN : t.val < 4 := lt_of_lt_of_eq t.isLt (show cfg0.N = 4 from N_0)
  by_cases h0 : t.val % 4 = 3
  · have hc := (cond_iff t).mpr h0
    have hid : cfg0.idle 2 (grid0.coords t) = false := by
      show (!(k0_cond1 (grid0.coords t) == 1#1)) = false
      rw [hc]; rfl
    rw [show (dats m 0 c).leavesExact 2 t = owns (c : Thread nD τ) (st0_2 t) fullShare ((dats m 0 c).after 2 t) from by
      unfold Dat.leavesExact; rw [hid], after_2]
    iintro ⟨⟨⟨%s, %hs, HS⟩, Hg⟩, Ho, ⟨%d0, H0⟩, ⟨%d1, H1⟩, ⟨%d2, H2⟩⟩
    have hf := filled_stamp m c t s hs
    have hall := filled_all m c (t.val + 1) (by omega) _ hf
    iapply (run_last c (grid0.coords t) _ _ _ _ _ _ _ _ hc (iblk m c 0 t) (iblk m c 1 t) _ s Set.univ _)
    rw [coord_eq t, hall]
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact fun _ _ => rfl
      iexact Hg
    isplitl [Ho]; · iexact Ho
    isplitl [H0]; · iexact H0
    isplitl [H1]; · iexact H1
    iexact H2
  · have hc : ¬ k0_cond1 (grid0.coords t) = 1#1 := fun h => h0 ((cond_iff t).mp h)
    have hid : cfg0.idle 2 (grid0.coords t) = true := by
      show (!(k0_cond1 (grid0.coords t) == 1#1)) = true
      simp [hc]
    have hfl : (cfg0.win 2).flush t = false := by
      rw [Bool.eq_false_iff]; exact fun h => h0 ((flush0_2 t).mp h)
    rw [(dats m 0 c).leavesExact_idle 2 t hid hfl]
    iintro ⟨⟨⟨%s, %hs, HS⟩, Hg⟩, Ho, ⟨%d0, H0⟩, ⟨%d1, H1⟩, ⟨%d2, H2⟩⟩
    have hf := filled_stamp m c t s hs
    iapply (run_skip c (grid0.coords t) _ _ _ _ _ _ _ _ hc (iblk m c 0 t) (iblk m c 1 t) _ s Set.univ _)
    rw [coord_eq t]
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hf
      iexact Hg
    isplitl [Ho]; · iexact Ho
    isplitl [H0]; · iexact H0
    isplitl [H1]; · iexact H1
    iexists d2; iexact H2

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends, with each array at its final contents, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      rw [show (Pipeline.ΦA (cfgs 0).spec c : sProp 𝕄) = Pipeline.ΦA spec0 c from rfl, PhiA_eq, Phi_eq]
      iintro ⟨⟨%d, HS⟩, Hg⟩
      isplitl [HS]
      · iexists d; isplitr; · ipureintro; exact fun j hj => absurd hj (by show ¬ (j 0).val < 8 * 0; omega)
        iexact HS
      iexact Hg)
    (hout := fun c => by
      rw [show (Pipeline.ΦA (cfgs 0).spec c : sProp 𝕄) = Pipeline.ΦA spec0 c from rfl, PhiA_eq, Phi_eq]
      iintro ⟨⟨%d, %hd, HS⟩, Hg⟩
      isplitl [HS]
      · iexists d; iexact HS
      iexact Hg)
    (Q' := _) (hQ' := fun _ h => h)

/-- The arguments end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hist

end
-- ==== Proof.Result.lean ====
/- What the whole program leaves in its result: the last point's block, reshaped to one row. -/
module

public import proofs.«01_k».proof.Proof.Launch
public import Idealize.ShloMosaic.Lib.Pipeline.ValueKit
public import Idealize.ShloMosaic.Lib.StableHlo.Run

@[expose] public section

set_option maxRecDepth 16384

noncomputable section

namespace Cert.KernelIdeal.Hist

open Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

variable {F : FTy → Type} [FloatOps F]

variable (m : (ℓ : Loc nD τ sig) → Buf (Elt F) ℓ) (ρ : Dev nD → PrngReg)

attribute [local irreducible] k0_pay1 tile

/-- The combination of histogram and prior that the last point stores. -/
def out (c : Dev nD) : Vec F S64x128 .f32 := k0_pay1 (lens m c) (iblk m c 1 (pt 3))

/-- The output array ends at what the last point left in its block. -/
theorem out_arr (c : Dev nD) : (dats m 0 c).arrAt 2 cfg0.N = out m c := by
  refine (dats m 0 c).arrAt_eq_of_after_last 2 (pt 3) (by decide +kernel) _ fun j => ?_
  rw [after_2]
  rfl

/-- The result ends at the output array's elements in order. -/
theorem fin (c : Dev nD) :
    Pipeline.afterTail₀ cfgs (dats m) 0 (V0 m) [hostOps1] c main_v3
      = shapeCast S8192 (out m c) shapeCasts_S64x128_S8192 := by
  unfold Pipeline.afterTail₀
  simp only [hostOps1, List.flatten_cons, List.flatten_nil, List.append_nil, List.cons_append, List.nil_append]
  after_results
  rw [Pipeline.withArrays_arr spec0 launch0.win.arr_inj c (V0 m c) _ 2, ← out_arr]
  rfl

/-- The run with its result: the combination of histogram and prior in one row, the arguments as they began. -/
theorem run : θ_run defs (onTc (τ := τ) (main (F := F))) (s₀ m ρ) (fun r => ∀ c : Dev nD,
      r.2.mem ((c.tc : Thread nD τ).loc main_v3) = shapeCast S8192 (out m c) shapeCasts_S64x128_S8192
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v3 (Pipeline.mem_restRefs_of main_v3 (by decide) (by decide))).trans (fin m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩)
    (run_main m ρ)

/-! ## What the blocks hold, in terms of the arguments -/

/-- The mask as the region finds it: each bit widened to a byte. -/
theorem V_mask (c : Dev nD) : V m c main_v0 = (extui 8 (m ((c : Thread nD τ).loc main_arg0)) natLt_1_8 : IVec S4096x8192 8) := by
  show StableHlo.after (List.flatten [hostOps0]) _ _ = _
  simp only [hostOps0, List.flatten_cons, List.flatten_nil, List.append_nil, List.cons_append, List.nil_append]
  after_results <;> rfl

/-- The prior as the region finds it: cut into 64 rows. -/
theorem V_prior (c : Dev nD) : V m c main_v1 = shapeCast S64x128 (m ((c : Thread nD τ).loc main_arg1)) shapeCasts_S8192_S64x128 := by
  show StableHlo.after (List.flatten [hostOps0]) _ _ = _
  simp only [hostOps0, List.flatten_cons, List.flatten_nil, List.append_nil, List.cons_append, List.nil_append]
  after_results <;> rfl

/-- The mask's block at a point is the one numbered by the point. -/
theorem idx_mask : ∀ t : Fin cfg0.N, win0_0.index t = ![t.val, 0] := by decide +kernel

/-- The prior's block is the same at every point. -/
theorem idx_prior : ∀ t : Fin cfg0.N, win0_1.index t = ![0, 0] := by decide +kernel

/-- Point `t`'s mask block at row `r`: row `1024 t + r` of the mask. -/
theorem iblk_mask (c : Dev nD) (t : Fin cfg0.N) (r : Fin 1024) (l : Fin 8192) (R : Fin 4096) (hR : R.val = 1024 * t.val + r.val) :
    iblk m c 0 t (ValueIdx.ix2 r l) = BitVec.setWidth 8 (m ((c : Thread nD τ).loc main_arg0) (ValueIdx.ix2 R l)) := by
  have e := idx_mask t
  refine Eq.trans ?_ (congrFun (V_mask m c) (ValueIdx.ix2 R l))
  show V m c main_v0 _ = V m c main_v0 _
  congr 1
  blk_ext [e]
  show t.val * 1024 + r.val = R.val
  omega

/-- Every point's prior block is the whole prior. -/
theorem iblk_prior (c : Dev nD) (t : Fin cfg0.N) :
    iblk m c 1 t = shapeCast S64x128 (m ((c : Thread nD τ).loc main_arg1)) shapeCasts_S8192_S64x128 := by
  rw [← V_prior]
  funext j
  show V m c main_v1 _ = V m c main_v1 _
  congr 1
  have e := idx_prior t
  blk_ext [e]

end Cert.KernelIdeal.Hist

end
-- ==== Proof.Packed.lean ====
/- Words that hold four counters, one in each byte: what a sum of such words holds, and how one counter is read back. -/
module

public import Idealize.ShloMosaic.Lib.WordSum
public import Idealize.ShloMosaic.Lib.BitcastFour
public import Mathlib.Algebra.Order.BigOperators.Group.Finset
public import Mathlib.Tactic.FinCases

@[expose] public section

namespace Cert.Hist

open Idealize.ShloMosaic

/-- A word whose byte `k` is the bit `b k` widened is the number with the digits `b k` to the base 256. -/
theorem word_toNat (w : BitVec 32) (b : Fin 4 → BitVec 1)
    (h : ∀ q (hq : q < 32), w.getLsbD q = ((b ⟨q / 8, by omega⟩).setWidth 8).getLsbD (q % 8)) :
    w.toNat = (b 0).toNat + 256 * (b 1).toNat + 65536 * (b 2).toNat + 16777216 * (b 3).toNat := by
  have e : w = ((b 0).setWidth 8).setWidth 32 ||| (((b 1).setWidth 8).setWidth 32 <<< 8)
      ||| (((b 2).setWidth 8).setWidth 32 <<< 16) ||| (((b 3).setWidth 8).setWidth 32 <<< 24) :=
    BitVec.eq_of_getLsbD_eq fun q hq => (h q hq).trans (four_bytes_getLsbD (fun k => (b k).setWidth 8) q hq).symm
  rw [e]
  generalize b 0 = b0
  generalize b 1 = b1
  generalize b 2 = b2
  generalize b 3 = b3
  revert b0 b1 b2 b3
  decide

/-- A bit counts at most one. -/
theorem bit_le (b : BitVec 1) : b.toNat ≤ 1 := Nat.lt_succ_iff.mp b.isLt

/-- A number below 2³¹ shifted right by eight times `k` and cut to its low byte is its digit `k` to the base 256. -/
theorem byte_of_word (u : ArithUnit) (y : BitVec 32) (hy : y.toNat < 2147483648) (k : ℕ) (hk : k < 4) :
    (IntOp.andi (IntOp.shrsi u y (BitVec.ofNat 32 (8 * k))) 255#32).toNat = y.toNat / 2 ^ (8 * k) % 256 := by
  have hs : (BitVec.ofNat 32 (8 * k)).toNat = 8 * k := by rw [BitVec.toNat_ofNat]; omega
  have hm : y.msb = false := by rw [BitVec.msb_eq_false_iff_two_mul_lt]; omega
  unfold IntOp.andi IntOp.shrsi
  rw [if_pos (by rw [hs]; omega), BitVec.toNat_and]
  show (y.sshiftRight _).toNat &&& _ = _
  rw [BitVec.sshiftRight_eq_of_msb_false hm, BitVec.toNat_ushiftRight, hs, Nat.shiftRight_eq_div_pow]
  exact Nat.and_two_pow_sub_one_eq_mod _ 8

/-- The sum of 64 such words has in byte `k` the number of words whose bit `k` is set. -/
theorem field_sum (u : ArithUnit) (f : ℕ → BitVec 32) (b : ℕ → Fin 4 → BitVec 1)
    (hf : ∀ j, (f j).toNat = (b j 0).toNat + 256 * (b j 1).toNat + 65536 * (b j 2).toNat + 16777216 * (b j 3).toNat) (k : Fin 4) :
    (IntOp.andi (IntOp.shrsi u (∑ j ∈ Finset.range 64, f j) (BitVec.ofNat 32 (8 * k.val))) 255#32).toNat
      = ∑ j ∈ Finset.range 64, (b j k).toNat := by
  have hb : ∀ k, ∑ j ∈ Finset.range 64, (b j k).toNat ≤ 64 := fun k =>
    (Finset.sum_le_card_nsmul _ _ 1 fun j _ => bit_le _).trans (by simp)
  have e : ∑ j ∈ Finset.range 64, (f j).toNat = (∑ j ∈ Finset.range 64, (b j 0).toNat)
      + 256 * (∑ j ∈ Finset.range 64, (b j 1).toNat) + 65536 * (∑ j ∈ Finset.range 64, (b j 2).toNat)
      + 16777216 * (∑ j ∈ Finset.range 64, (b j 3).toNat) := by
    simp only [hf, Finset.sum_add_distrib, Finset.mul_sum]
  have h0 := hb 0
  have h1 := hb 1
  have h2 := hb 2
  have h3 := hb 3
  have ht : (∑ j ∈ Finset.range 64, f j).toNat = ∑ j ∈ Finset.range 64, (f j).toNat :=
    WordSum.toNat_sum _ _ (by rw [e]; omega)
  rw [byte_of_word u _ (by rw [ht, e]; omega) k.val k.isLt, ht, e]
  fin_cases k <;> simp only [Fin.zero_eta, Fin.mk_one, Fin.reduceFinMk, Fin.isValue, Nat.reduceMul, Nat.reducePow, Fin.val_zero, Fin.val_one, Fin.val_two, Fin.coe_ofNat_eq_mod, Nat.reduceMod] <;> omega

/-- Words added up one by one from zero have the sum of their values as value while that is below 2³². -/
theorem toNat_fold_addi {ι : Type*} (S : Finset ι) (f : ι → BitVec 32) (h : ∑ i ∈ S, (f i).toNat < 2 ^ 32) :
    (S.fold IntOp.addi 0#32 f).toNat = ∑ i ∈ S, (f i).toNat := by
  rw [← WordSum.toNat_sum S f h, Finset.sum_eq_fold]
  rfl

/-- The number of set bits in row `r` of a table of bits. -/
def rowLen {m n : ℕ} (b : Fin m → Fin n → BitVec 1) (r : Fin m) : ℕ := ∑ l, (b r l).toNat

/-- A row has at most as many set bits as it has bits. -/
theorem rowLen_le {m n : ℕ} (b : Fin m → Fin n → BitVec 1) (r : Fin m) : rowLen b r ≤ n :=
  (Finset.sum_le_card_nsmul _ _ 1 fun j _ => bit_le _).trans (by simp)

/-- How many rows of a table of bits have `k` set bits. -/
def count {m n : ℕ} (b : Fin m → Fin n → BitVec 1) (k : ℕ) : ℕ := (Finset.univ.filter fun r => rowLen b r = k).card

end Cert.Hist
-- ==== Proof.Tile.lean ====
/- What one block computes: the lengths of its 1024 rows, in the order in which the packed words give them. -/
module

public import proofs.«01_k».proof.Proof.Body
public import proofs.«01_k».proof.Proof.Packed
public import Idealize.ShloMosaic.Lib.Pointwise
public import Idealize.ShloMosaic.PureOps.Reduce

@[expose] public section

set_option maxRecDepth 16384

noncomputable section

namespace Cert.KernelIdeal.Hist

open Cert.KernelIdeal.Gen Cert.Hist
open Idealize.ShloMosaic Idealize.ShloMosaic.Tactic

variable {F : FTy → Type} [FloatOps F]

/-- The 64 lane groups of the words, added. -/
def lanes (X : IVec S256x8192 32) : IVec S256x128 32 := fun j =>
  ∑ g ∈ Finset.range 64, X (ValueIdx.ix2 (j 0) ⟨(128 * g + (j 1).val) % 8192, Nat.mod_lt _ (by decide)⟩)

/-- One byte of each word, added over the lanes. -/
def digit (s : BitVec 32) (y : IVec S256x128 32) : IVec S256 32 :=
  multiReductionI .add [1] S256 (andi (shrsi y (broadcast S256x128 s)) (broadcast S256x128 255#32)) 0#32 reduces_S256x128_S256 rfl

/-- The four bytes' sums one after the other, as a tile. -/
def spread (y : IVec S256x128 32) : IVec S8x128 32 :=
  shapeCast S8x128 (shapeCast S8x128 (concatenate S1024 0
    [⟨S256, digit 0#32 y⟩, ⟨S256, digit 8#32 y⟩, ⟨S256, digit 16#32 y⟩, ⟨S256, digit 24#32 y⟩]
    concatenates_S256_S256_S256_S256_S1024_d0) shapeCasts_S1024_S8x128) shapeCasts_S8x128_S8x128

/-- A slice of 128 lanes, read at a place. -/
theorem slice_at (X : IVec S256x8192 32) (o : ℕ) (h : S256x8192.Slices ![0, o] S256x128) (j : S256x128.Idx) :
    extractStridedSlice S256x128 ![0, o] X h j = X (ValueIdx.ix2 (j 0) ⟨(o + (j 1).val) % 8192, Nat.mod_lt _ (by decide)⟩) := by
  have hb : o + (j 1).val < 8192 := by
    have h1 : o + 128 ≤ 8192 := h.2 1
    have h2 : (j 1).val < 128 := (j 1).isLt
    omega
  unfold extractStridedSlice
  congr 1
  funext a
  match a with
  | ⟨0, _⟩ => exact Fin.ext (Nat.zero_add _)
  | ⟨1, _⟩ => exact Fin.ext (Nat.mod_eq_of_lt hb).symm

/-- A block's tile is the spread of its words' lane groups. -/
theorem tile_eq (x : Vec F S1024x8192 .i8) : tile x = spread (lanes (k0_pay2 x)) := by
  unfold tile k0_pay7 k0_pay5 k0_pay6 k0_pay3 k0_pay4
  dsimp only
  refine congrArg spread (a₁ := _) ?_
  funext j
  unfold lanes
  simp only [Finset.sum_range_succ, Finset.sum_range_zero, addi, IntOp.addi, slice_at, zero_add, Nat.reduceMul]

/-- A word holds four rows' bits of one column, the first row in its lowest byte. -/
theorem word_at (x : Vec F S1024x8192 .i8) (b : Fin 1024 → Fin 8192 → BitVec 1)
    (hx : ∀ r l, x (ValueIdx.ix2 r l) = (b r l).setWidth 8) (a : Fin 256) (l : Fin 8192) :
    (k0_pay2 x (ValueIdx.ix2 a l)).toNat = (b ⟨4 * a.val + 0, by omega⟩ l).toNat + 256 * (b ⟨4 * a.val + 1, by omega⟩ l).toNat
      + 65536 * (b ⟨4 * a.val + 2, by omega⟩ l).toNat + 16777216 * (b ⟨4 * a.val + 3, by omega⟩ l).toNat := by
  refine word_toNat _ (fun k => b ⟨4 * a.val + k.val, by omega⟩ l) fun q hq => ?_
  unfold k0_pay2
  dsimp only
  rw [bitcast_8_32_getLsbD_ix2 _ _ a l q hq ⟨4 * a.val + q / 8, by omega⟩ rfl]
  pointwise
  rw [hx]

/-- Columns counted by lane and lane group are all the columns. -/
theorem sum_lanes (f : Fin 8192 → ℕ) :
    ∑ l : Fin 128, ∑ g ∈ Finset.range 64, f ⟨(128 * g + l.val) % 8192, Nat.mod_lt _ (by decide)⟩ = ∑ c, f c := by
  rw [Finset.sum_comm, Finset.sum_range (fun g => ∑ l : Fin 128, f ⟨(128 * g + l.val) % 8192, Nat.mod_lt _ (by decide)⟩),
    ← Fintype.sum_prod_type' (f := fun (g : Fin 64) (l : Fin 128) => f ⟨(128 * g.val + l.val) % 8192, Nat.mod_lt _ (by decide)⟩),
    ← Equiv.sum_comp (finProdFinEquiv (m := 64) (n := 128)) f]
  refine Finset.sum_congr rfl fun p _ => congrArg f (Fin.ext ?_)
  have h1 := p.1.isLt
  have h2 := p.2.isLt
  show (128 * p.1.val + p.2.val) % 8192 = p.2.val + 128 * p.1.val
  omega

/-- The lane sum of byte `k` of the words in row `a` is the number of set bits in row `4 a + k` of the block. -/
theorem digit_at (x : Vec F S1024x8192 .i8) (b : Fin 1024 → Fin 8192 → BitVec 1)
    (hx : ∀ r l, x (ValueIdx.ix2 r l) = (b r l).setWidth 8) (a : Fin 256) (k : Fin 4) :
    (digit (BitVec.ofNat 32 (8 * k.val)) (lanes (k0_pay2 x)) (ix1 a)).toNat = rowLen b ⟨4 * a.val + k.val, by omega⟩ := by
  have hf : ∀ l : Fin 128, (IntOp.andi (IntOp.shrsi .vector (lanes (k0_pay2 x) (ix2 a l)) (BitVec.ofNat 32 (8 * k.val))) 255#32).toNat
      = ∑ g ∈ Finset.range 64, (b ⟨4 * a.val + k.val, by omega⟩ ⟨(128 * g + l.val) % 8192, Nat.mod_lt _ (by decide)⟩).toNat := fun l =>
    field_sum .vector _ (fun g k => b ⟨4 * a.val + k.val, by omega⟩ ⟨(128 * g + l.val) % 8192, Nat.mod_lt _ (by decide)⟩)
      (fun g => word_at x b hx a _) k
  unfold digit
  pointwise
  have e := (Finset.sum_congr rfl fun l _ => hf l).trans (sum_lanes fun c => (b ⟨4 * a.val + k.val, by omega⟩ c).toNat)
  exact (toNat_fold_addi _ _ (by rw [e]; exact (rowLen_le b _).trans_lt (by decide))).trans e

/-- A block's tile in row-major order: place `256 k + a` holds the number of set bits in row `4 a + k` of the block. -/
theorem tile_at (x : Vec F S1024x8192 .i8) (b : Fin 1024 → Fin 8192 → BitVec 1)
    (hx : ∀ r l, x (ValueIdx.ix2 r l) = (b r l).setWidth 8) (p : Fin 8) (q : Fin 128) :
    (tile x (ValueIdx.ix2 p q)).toNat
      = rowLen b ⟨4 * ((128 * p.val + q.val) % 256) + (128 * p.val + q.val) / 256, by omega⟩ := by
  rw [tile_eq]
  have at_ : ∀ (k : Fin 4) (a : Fin 256), 128 * p.val + q.val = 256 * k.val + a.val →
      (digit (BitVec.ofNat 32 (8 * k.val)) (lanes (k0_pay2 x)) (ix1 a)).toNat
        = rowLen b ⟨4 * ((128 * p.val + q.val) % 256) + (128 * p.val + q.val) / 256, by omega⟩ := fun k a h =>
    (digit_at x b hx a k).trans (congrArg (rowLen b) (Fin.ext (by show 4 * a.val + k.val = _; simp only [h]; omega)))
  generalize lanes (k0_pay2 x) = y at *
  unfold spread
  pointwise
  change (if h : p.val * 128 + q.val < 256 then digit 0#32 y (ix1 ⟨p.val * 128 + q.val, h⟩)
    else if h : p.val * 128 + q.val - 256 < 256 then digit 8#32 y (ix1 ⟨p.val * 128 + q.val - 256, h⟩)
    else if h : p.val * 128 + q.val - 256 - 256 < 256 then digit 16#32 y (ix1 ⟨p.val * 128 + q.val - 256 - 256, h⟩)
    else digit 24#32 y (ix1 ⟨p.val * 128 + q.val - 256 - 256 - 256, by omega⟩)).toNat = _
  split_ifs
  · exact at_ 0 _ (by show _ = 256 * 0 + (p.val * 128 + q.val); omega)
  · exact at_ 1 _ (by show _ = 256 * 1 + (p.val * 128 + q.val - 256); omega)
  · exact at_ 2 _ (by show _ = 256 * 2 + (p.val * 128 + q.val - 256 - 256); omega)
  · exact at_ 3 _ (by show _ = 256 * 3 + (p.val * 128 + q.val - 256 - 256 - 256); omega)

end Cert.KernelIdeal.Hist

end
-- ==== Proof.OneHot.lean ====
/- The two indicators by which the kernel counts: a length's high part and its low part, and what their product says. -/
module

public import proofs.«01_k».proof.Proof.Packed
public import Idealize.ShloMosaic.PureOps.Ideal

@[expose] public section

noncomputable section

namespace Cert.Hist

open Idealize.ShloMosaic

/-- A bit widened and read as a float is one or zero. -/
theorem sitofp_bit (p : Bool) :
    FloatOps.sitofp (F := Ideal) .f32 ((BitVec.ofBool p).setWidth 32) = if p then (1 : EReal) else 0 := by
  show ((((BitVec.ofBool p).setWidth 32).toInt : ℝ) : EReal) = _
  cases p <;> simp

/-- One less than a small word: below zero it is all ones. -/
theorem pred_toNat (w : BitVec 32) (hw : w.toNat ≤ 8192) :
    (IntOp.subi w 1#32).toNat = if w.toNat = 0 then 4294967295 else w.toNat - 1 := by
  unfold IntOp.subi
  rw [BitVec.toNat_sub]
  split <;> simp only [BitVec.toNat_ofNat] <;> omega

/-- The high part of a length less one is `h` exactly if the length is one of `128 h + 1` to `128 h + 128`. -/
theorem hi_eq (w : BitVec 32) (hw : w.toNat ≤ 8192) (h : Fin 64) :
    IntOp.cmpi .eq (IntOp.shrsi .vector (IntOp.subi w 1#32) 7#32) (BitVec.ofNat 32 h.val)
      = BitVec.ofBool (decide (w.toNat ≠ 0 ∧ (w.toNat - 1) / 128 = h.val)) := by
  have hp := pred_toNat w hw
  have hh := h.isLt
  unfold IntOp.cmpi IntOp.shrsi
  rw [if_pos (by decide)]
  show BitVec.ofBool ((IntOp.subi w 1#32).sshiftRight 7 == BitVec.ofNat 32 h.val) = _
  congr 1
  rw [Bool.eq_iff_iff, beq_iff_eq, decide_eq_true_iff]
  by_cases h0 : w.toNat = 0
  · have e : IntOp.subi w 1#32 = 4294967295#32 := BitVec.eq_of_toNat_eq (by rw [hp, if_pos h0]; rfl)
    rw [e, show (4294967295#32 : BitVec 32).sshiftRight 7 = 4294967295#32 from by decide, ← BitVec.toNat_inj]
    simp only [BitVec.toNat_ofNat]
    omega
  · rw [if_neg h0] at hp
    have hm : (IntOp.subi w 1#32).msb = false := by rw [BitVec.msb_eq_false_iff_two_mul_lt]; omega
    rw [BitVec.sshiftRight_eq_of_msb_false hm, ← BitVec.toNat_inj, BitVec.toNat_ushiftRight, hp, Nat.shiftRight_eq_div_pow,
      BitVec.toNat_ofNat]
    omega

/-- The low part of a positive length less one. -/
theorem lo_eq (w : BitVec 32) (hw : w.toNat ≤ 8192) (h0 : w.toNat ≠ 0) (l : Fin 128) :
    IntOp.cmpi .eq (IntOp.andi (IntOp.subi w 1#32) 127#32) (BitVec.ofNat 32 l.val)
      = BitVec.ofBool (decide ((w.toNat - 1) % 128 = l.val)) := by
  have hp := pred_toNat w hw
  have hl := l.isLt
  rw [if_neg h0] at hp
  unfold IntOp.cmpi IntOp.andi
  show BitVec.ofBool (IntOp.subi w 1#32 &&& 127#32 == BitVec.ofNat 32 l.val) = _
  congr 1
  rw [Bool.eq_iff_iff, beq_iff_eq, decide_eq_true_iff, ← BitVec.toNat_inj, BitVec.toNat_and, hp,
    show (127#32 : BitVec 32).toNat = 2 ^ 7 - 1 from rfl, Nat.and_two_pow_sub_one_eq_mod, BitVec.toNat_ofNat]
  omega

/-- The product of the two indicators is the indicator of the length `128 h + l + 1`. -/
theorem hi_mul_lo (w : BitVec 32) (hw : w.toNat ≤ 8192) (h : Fin 64) (l : Fin 128) :
    FloatOps.sitofp (F := Ideal) .f32
        (BitVec.setWidth 32 (IntOp.cmpi .eq (IntOp.shrsi .vector (IntOp.subi w 1#32) 7#32) (BitVec.ofNat 32 h.val)))
      * FloatOps.sitofp (F := Ideal) .f32
        (BitVec.setWidth 32 (IntOp.cmpi .eq (IntOp.andi (IntOp.subi w 1#32) 127#32) (BitVec.ofNat 32 l.val)))
      = if w.toNat = 128 * h.val + l.val + 1 then (1 : EReal) else 0 := by
  have hl := l.isLt
  rw [hi_eq w hw h, sitofp_bit]
  by_cases h0 : w.toNat = 0
  · rw [if_neg (by rw [decide_eq_true_iff]; omega), if_neg (by omega)]
    exact zero_mul _
  · rw [lo_eq w hw h0 l, sitofp_bit]
    simp only [decide_eq_true_eq]
    by_cases h1 : (w.toNat - 1) / 128 = h.val
    · rw [if_pos ⟨h0, h1⟩]
      refine (one_mul _).trans (if_congr ?_ rfl rfl)
      omega
    · rw [if_neg (fun e => h1 e.2)]
      refine (zero_mul _).trans (if_neg ?_).symm
      omega

end Cert.Hist

end
-- ==== Proof.Counts.lean ====
/- What the result block holds: for each length, the prior weighted and the number of rows of that length, scaled. -/
module

public import proofs.«01_k».proof.Proof.Result
public import proofs.«01_k».proof.Proof.Tile
public import proofs.«01_k».proof.Proof.OneHot
public import Idealize.ShloMosaic.Lib.Pointwise

@[expose] public section

set_option maxRecDepth 16384

noncomputable section

namespace Cert.KernelIdeal.Hist

open Cert.KernelIdeal.Gen Cert.Hist
open Idealize.ShloMosaic Idealize.ShloMosaic.TcCoe Idealize.ShloMosaic.Tactic

/-- The mask of the arguments as a table of bits. -/
def mask (m : (ℓ : Loc nD τ sig) → Buf (Elt Ideal) ℓ) (c : Dev nD) (r : Fin 4096) (l : Fin 8192) : BitVec 1 :=
  m ((c : Thread nD τ).loc main_arg0) (ValueIdx.ix2 r l)

/-- The row whose length stands at row-major place `n` of the scratch. -/
def perm (n : Fin 4096) : Fin 4096 := ⟨1024 * (n.val / 1024) + 4 * (n.val % 256) + n.val % 1024 / 256, by omega⟩

/-- The scratch at its end holds every row's length, in that order. -/
theorem lens_at (m : (ℓ : Loc nD τ sig) → Buf (Elt Ideal) ℓ) (c : Dev nD) (n : Fin 4096) :
    (lens m c (ValueIdx.ix2 ⟨n.val / 128, by omega⟩ ⟨n.val % 128, by omega⟩)).toNat = rowLen (mask m c) (perm n) := by
  have ht : (pt (n.val / 128 / 8)).val = n.val / 1024 := by show n.val / 128 / 8 % 4 = _; omega
  refine (tile_at _ (fun r l => mask m c ⟨1024 * (n.val / 1024) + r.val, by omega⟩ l)
    (fun r l => iblk_mask m c (pt (n.val / 128 / 8)) r l ⟨1024 * (n.val / 1024) + r.val, by omega⟩ (by rw [ht])) _ _).trans ?_
  show rowLen (mask m c) _ = _
  congr 1
  apply Fin.ext
  show 1024 * (n.val / 1024) + (4 * ((128 * (n.val / 128 % 8) + n.val % 128) % 256) + (128 * (n.val / 128 % 8) + n.val % 128) / 256)
    = 1024 * (n.val / 1024) + 4 * (n.val % 256) + n.val % 1024 / 256
  omega

/-- That order takes every row once. -/
theorem perm_bijective : Function.Bijective perm := by
  refine (Finite.injective_iff_bijective).mp fun a b h => Fin.ext ?_
  have e : 1024 * (a.val / 1024) + 4 * (a.val % 256) + a.val % 1024 / 256
      = 1024 * (b.val / 1024) + 4 * (b.val % 256) + b.val % 1024 / 256 := congrArg Fin.val h
  have digits : ∀ x y z x' y' z' : ℕ, y < 256 → z < 4 → y' < 256 → z' < 4 → 1024 * x + 4 * y + z = 1024 * x' + 4 * y' + z' →
      x = x' ∧ y = y' ∧ z = z' := by omega
  obtain ⟨e1, e2, e3⟩ := digits _ _ _ _ _ _ (by omega) (by omega) (by omega) (by omega) e
  omega

/-- The last point's value from a scratch of lengths: the product of the two indicator matrices counts the rows. -/
theorem pay_at (S : Vec Ideal S32x128 .i32) (P : Vec Ideal S64x128 .f32) (len : Fin 4096 → ℕ) (hlen : ∀ n, len n ≤ 8192)
    (hS : ∀ n : Fin 4096, (S (ix2 ⟨n.val / 128, by omega⟩ ⟨n.val % 128, by omega⟩)).toNat = len n) (h : Fin 64) (l : Fin 128) :
    k0_pay1 S P (ix2 h l)
      = Ideal.ofBits .f32 0x3F7FBE77#32 * P (ix2 h l)
        + Ideal.ofBits .f32 0x34831200#32 * ∑ n, if len n = 128 * h.val + l.val + 1 then (1 : EReal) else 0 := by
  unfold k0_pay1
  pointwise
  refine congrArg (fun s => Ideal.ofBits .f32 0x3F7FBE77#32 * P (ix2 h l) + Ideal.ofBits .f32 0x34831200#32 * s) ?_
  refine Finset.sum_congr rfl fun n _ => ?_
  rw [← hS n]
  exact hi_mul_lo _ ((hS n).trans_le (hlen n)) h l

/-- The result block at a place: the prior weighted, and the number of rows of that length, scaled. -/
theorem out_at (m : (ℓ : Loc nD τ sig) → Buf (Elt Ideal) ℓ) (c : Dev nD) (h : Fin 64) (l : Fin 128) :
    out m c (ix2 h l)
      = Ideal.ofBits .f32 0x3F7FBE77#32 * m ((c : Thread nD τ).loc main_arg1) (ix1 ⟨128 * h.val + l.val, by omega⟩)
        + Ideal.ofBits .f32 0x34831200#32 * (count (mask m c) (128 * h.val + l.val + 1) : EReal) := by
  unfold out
  rw [pay_at _ _ (fun n => rowLen (mask m c) (perm n)) (fun n => rowLen_le _ _) (lens_at m c), iblk_prior]
  refine congrArg₂ (fun p s => Ideal.ofBits .f32 0x3F7FBE77#32 * p + Ideal.ofBits .f32 0x34831200#32 * s) ?_ ?_
  · pointwise
    exact congrArg (fun i => m ((c : Thread nD τ).loc main_arg1) (ix1 i)) (Fin.ext (by show h.val * 128 + l.val = 128 * h.val + l.val; omega))
  · rw [perm_bijective.sum_comp (fun r => if rowLen (mask m c) r = 128 * h.val + l.val + 1 then (1 : EReal) else 0), Finset.sum_boole]
    rfl

end Cert.KernelIdeal.Hist

end
-- ==== Proof.RefCounts.lean ====
/- What the reference computes: the rows' lengths, their histogram, and its combination with the prior. -/
module

public import proofs.«01_k».proof.Proof.Gen.ReferenceIdeal
public import proofs.«01_k».proof.Proof.Packed
public import Idealize.ShloMosaic.Lib.Pointwise
public import Idealize.ShloMosaic.Lib.Routing.OpsPair
public import Idealize.ShloMosaic.Lib.Routing.Ops

@[expose] public section

set_option maxRecDepth 16384

noncomputable section

namespace Cert.ReferenceIdeal.Hist

open Cert.ReferenceIdeal Cert.ReferenceIdeal.Gen Cert.Hist
open Idealize.ShloMosaic Idealize.ShloMosaic.TcCoe Idealize.ShloMosaic.Tactic

/-- The rows' lengths, as the reference adds them up. -/
def lenV (M : IVec S4096x8192 1) : IVec S4096 32 :=
  Host.reduce IntOp.addi (extui 32 M natLt_1_32) (constantI S_ 32 0#32) reducesTo_S4096x8192_S4096_d1 h_S_

/-- The lengths as the histogram's indices: none is below zero, and none is taken from the end. -/
def clipV (M : IVec S4096x8192 1) : IVec S4096 32 := maxsi (broadcastInDim S4096 ![] bcast_S_S4096 (id (constantI S_ 32 0#32))) (lenV M)

/-- The histogram's index column. -/
def idxV (M : IVec S4096x8192 1) : IVec S4096x1 32 :=
  broadcastInDim S4096x1 ![0] bcast_S4096_S4096x1_0 (select (cmpi .slt (clipV M) (broadcastInDim S4096 ![] bcast_S_S4096 (constantI S_ 32 0#32)))
    (addi (clipV M) (broadcastInDim S4096 ![] bcast_S_S4096 (constantI S_ 32 8193#32))) (clipV M))

/-- The histogram. -/
def histV (M : IVec S4096x8192 1) : IVec S8193 32 :=
  Host.scatter scatter_S8193_S4096x1_S4096_n_0_0_1 IntOp.addi (broadcastInDim S8193 ![] bcast_S_S8193 (constantI S_ 32 0#32)) (idxV M)
    (broadcastInDim S4096 ![] bcast_S_S4096 (constantI S_ 32 1#32))

/-- The reference's result. -/
def refV (M : IVec S4096x8192 1) (P : FVec Ideal S8192 .f32) : FVec Ideal S8192 .f32 :=
  addf (mulf (broadcastInDim S8192 ![] bcast_S_S8192 (constant (F := Ideal) S_ .f32 0x3F7FBE77#32)) P)
    (mulf (broadcastInDim S8192 ![] bcast_S_S8192 (constant (F := Ideal) S_ .f32 0x3A831200#32))
      (Host.divf (sitofp .f32 (extractStridedSlice S8192 ![1] (histV M) slices_S8193_S8192_1))
        (broadcastInDim S8192 ![] bcast_S_S8192 (constant (F := Ideal) S_ .f32 0x45800000#32))))

/-- The mask as a table of bits. -/
def table (M : IVec S4096x8192 1) (r : Fin 4096) (l : Fin 8192) : BitVec 1 := M (ix2 r l)

/-- A row's length is its number of set bits. -/
theorem lenV_at (M : IVec S4096x8192 1) (r : Fin 4096) : (lenV M (ix1 r)).toNat = rowLen (table M) r := by
  have e : ∑ l, ((table M r l).setWidth 32).toNat = rowLen (table M) r :=
    Finset.sum_congr rfl fun l _ => by rw [BitVec.toNat_setWidth]; have := (table M r l).isLt; omega
  unfold lenV
  pointwise
  exact (toNat_fold_addi _ (fun l => (table M r l).setWidth 32) (e.trans_lt ((rowLen_le _ r).trans_lt (by decide)))).trans e

/-- Clipping at zero changes no length. -/
theorem clipV_at (M : IVec S4096x8192 1) (r : Fin 4096) : clipV M (ix1 r) = lenV M (ix1 r) := by
  have h := (lenV_at M r).trans_le (rowLen_le (table M) r)
  unfold clipV
  generalize lenV M = L at *
  pointwise
  show (if (L (ix1 r)).slt 0#32 then 0#32 else L (ix1 r)) = L (ix1 r)
  refine if_neg ?_
  rw [BitVec.slt_eq_decide, decide_eq_true_iff, BitVec.toInt_eq_toNat_of_lt (x := L (ix1 r)) (by omega)]
  simp

/-- The index column holds the lengths. -/
theorem idxV_at (M : IVec S4096x8192 1) (r : Fin 4096) : idxV M (ix2 r 0) = lenV M (ix1 r) := by
  have h := (lenV_at M r).trans_le (rowLen_le (table M) r)
  have h1 := clipV_at M r
  unfold idxV
  generalize clipV M = L at *
  pointwise
  rw [h1]
  exact Routing.wrap_of_lt _ _ (h.trans_lt (by decide))

/-- Row `r`'s one lands at the entry that its index word names. -/
theorem lands (idx : IVec S4096x1 32) (r : Fin 4096) (e : Fin 8193) :
    scatter_S8193_S4096x1_S4096_n_0_0_1.resultIdx? (ix1 r) idx = some (ix1 e) ↔ (idx (ix2 r 0)).toInt = (e.val : Int) := by
  have hw : scatter_S8193_S4096x1_S4096_n_0_0_1.window (ix1 r) (0 : Fin 1) = 0 := rfl
  have hs : scatter_S8193_S4096x1_S4096_n_0_0_1.start (ix1 r) idx (0 : Fin 1) = (idx (ix2 r 0)).toInt := by
    unfold ScatterDims.start
    rw [dif_pos (by decide)]
    congr 2
    funext b
    match b with
    | ⟨0, _⟩ => rfl
    | ⟨1, _⟩ => rfl
  rw [Routing.resultIdx?_eq_some]
  constructor
  · intro h
    have := h (0 : Fin 1)
    rw [hs, hw] at this
    simpa using this
  · intro h a
    match a with
    | ⟨0, _⟩ =>
      show scatter_S8193_S4096x1_S4096_n_0_0_1.start (ix1 r) idx (0 : Fin 1) + (scatter_S8193_S4096x1_S4096_n_0_0_1.window (ix1 r) (0 : Fin 1) : Int) = _
      rw [hs, hw, h]
      exact Int.add_zero _

/-- Adding one for each member of a list that has a property counts them. -/
theorem foldl_count {β : Type} (p : β → Prop) [DecidablePred p] (L : List β) (a : BitVec 32) :
    L.foldl (fun a n => if p n then IntOp.addi a 1#32 else a) a = a + BitVec.ofNat 32 (L.countP fun n => decide (p n)) := by
  induction L generalizing a with
  | nil => simp
  | cons n L ih =>
    rw [List.foldl_cons, ih, List.countP_cons]
    by_cases h : p n
    · simp only [h, if_true, decide_true, IntOp.addi, BitVec.ofNat_add]
      rw [add_assoc, add_comm (1#32)]
    · simp only [h, if_false, decide_false, Bool.false_eq_true, Nat.add_zero]

/-- … and over all the places of an array that is the number of places that have it. -/
theorem foldl_card {N n : ℕ} (h : N = n) (p : Fin n → Prop) [DecidablePred p] :
    (List.finRange N).foldl (fun a k => if p (k.cast h) then IntOp.addi a 1#32 else a) 0#32
      = BitVec.ofNat 32 (Finset.univ.filter p).card := by
  subst h
  refine (foldl_count p (List.finRange N) 0#32).trans ((BitVec.zero_add _).trans (congrArg (BitVec.ofNat 32) ?_))
  rw [List.countP_eq_length_filter]
  rfl

/-- The histogram's entry `e` is the number of rows of length `e`. -/
theorem histV_at (M : IVec S4096x8192 1) (e : Fin 8193) : histV M (ix1 e) = BitVec.ofNat 32 (count (table M) e.val) := by
  have hl : ∀ n : Fin S4096.numel,
      scatter_S8193_S4096x1_S4096_n_0_0_1.resultIdx? (S4096.rowMajor.symm n) (idxV M) = some (ix1 e)
        ↔ rowLen (table M) (n.cast (Routing.numel1 4096)) = e.val := fun n => by
    have hb := rowLen_le (table M) (n.cast (Routing.numel1 4096))
    have h0 : S4096.rowMajor.symm n = ix1 (n.cast (Routing.numel1 4096)) := Routing.symm1 n
    have ht := lenV_at M (n.cast (Routing.numel1 4096))
    rw [h0, lands, idxV_at, BitVec.toInt_eq_toNat_of_lt (by rw [ht]; omega), ht]
    omega
  unfold histV
  rw [Routing.scatter_at]
  simp only [hl]
  exact foldl_card (Routing.numel1 4096) (fun r => rowLen (table M) r = e.val)

/-- No length occurs more often than there are rows. -/
theorem count_le {m n : ℕ} (b : Fin m → Fin n → BitVec 1) (k : ℕ) : count b k ≤ m :=
  (Finset.card_le_univ _).trans (Fintype.card_fin m).le

/-- A count as a float. -/
theorem sitofp_count (k : ℕ) (hk : k ≤ 4096) : FloatOps.sitofp (F := Ideal) .f32 (BitVec.ofNat 32 k) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  rfl

/-- The reference's result at a length less one: the prior weighted, and the share of the rows of that length, weighted. -/
theorem refV_at (M : IVec S4096x8192 1) (P : FVec Ideal S8192 .f32) (j : Fin 8192) :
    refV M P (ix1 j) = Ideal.ofBits .f32 0x3F7FBE77#32 * P (ix1 j)
      + Ideal.ofBits .f32 0x3A831200#32 * Ideal.div ((count (table M) (j.val + 1) : ℝ) : EReal) (Ideal.ofBits .f32 0x45800000#32) := by
  have h := histV_at M
  unfold refV
  generalize histV M = H at *
  pointwise
  rw [h, sitofp_count _ (count_le _ _)]
  show _ + _ * Ideal.div (((count (table M) (1 + j.val) : ℕ) : ℝ) : EReal) _ = _
  rw [Nat.add_comm 1]

end Cert.ReferenceIdeal.Hist

end
-- ==== Proof.Equation.lean ====
/- The equation: the kernel's result and the reference's are the same function of the arguments. -/
module

public import proofs.«01_k».proof.Proof.Counts
public import proofs.«01_k».proof.Proof.RefCounts

@[expose] public section

set_option maxRecDepth 16384

noncomputable section

namespace Cert.Hist

open Idealize.ShloMosaic Idealize.ShloMosaic.TcCoe Idealize.ShloMosaic.Tactic

/-- The number of rows the reference divides by. -/
theorem rows_word : Ideal.ofBits .f32 0x45800000#32 = ((4096 : ℝ) : EReal) := by
  simp [Ideal.ofBits, Ideal.ieee, -EReal.coe_mul]; norm_num

/-- The weight the reference gives the new counts, as a rational. -/
theorem weight_word : Ideal.ofBits .f32 0x3A831200#32 = ((8589824 / 8589934592 : ℝ) : EReal) := by
  simp [Ideal.ofBits, Ideal.ieee, -EReal.coe_mul]; norm_num

/-- The scale the kernel gives a count, as a rational: that weight over the number of rows. -/
theorem scale_word : Ideal.ofBits .f32 0x34831200#32 = ((8589824 / 8589934592 / 4096 : ℝ) : EReal) := by
  simp [Ideal.ofBits, Ideal.ieee, -EReal.coe_mul]; norm_num

/-- Scaling a count once is dividing it by the number of rows and weighting the quotient. -/
theorem scale_eq (n : ℕ) : Ideal.ofBits .f32 0x34831200#32 * (n : EReal)
    = Ideal.ofBits .f32 0x3A831200#32 * Ideal.div ((n : ℝ) : EReal) (Ideal.ofBits .f32 0x45800000#32) := by
  rw [rows_word, weight_word, scale_word, Ideal.div_coe (by norm_num : (4096 : ℝ) ≠ 0), ← EReal.coe_natCast, ← EReal.coe_mul, ← EReal.coe_mul,
    ← EReal.coe_mul]
  refine congrArg Real.toEReal ?_
  ring

end Cert.Hist

namespace Cert.KernelIdeal.Hist

open Cert.KernelIdeal.Gen Cert.Hist
open Idealize.ShloMosaic Idealize.ShloMosaic.TcCoe Idealize.ShloMosaic.Tactic

/-- The kernel's result is the reference's, element for element. -/
theorem result_eq (m : (ℓ : Loc nD τ sig) → Buf (Elt Ideal) ℓ) (c : Dev nD) :
    shapeCast S8192 (out m c) shapeCasts_S64x128_S8192
      = Cert.ReferenceIdeal.Hist.refV (m ((c : Thread nD τ).loc main_arg0)) (m ((c : Thread nD τ).loc main_arg1)) := by
  have hm : Cert.ReferenceIdeal.Hist.table (m ((c : Thread nD τ).loc main_arg0)) = mask m c := by
    funext r l
    exact congrArg (m ((c : Thread nD τ).loc main_arg0)) (ix2_eq_valueIdx r l)
  have hat : ∀ j : Fin 8192, shapeCast S8192 (out m c) shapeCasts_S64x128_S8192 (ix1 j)
      = Cert.ReferenceIdeal.Hist.refV (m ((c : Thread nD τ).loc main_arg0)) (m ((c : Thread nD τ).loc main_arg1)) (ix1 j) := by
    intro j
    have hj : 128 * (j.val / 128) + j.val % 128 = j.val := by omega
    have hs : shapeCast S8192 (out m c) shapeCasts_S64x128_S8192 (ix1 j)
        = out m c (ix2 ⟨j.val / 128, by omega⟩ ⟨j.val % 128, by omega⟩) := by
      generalize out m c = o
      pointwise
    refine hs.trans ((out_at m c _ _).trans ?_)
    rw [Cert.ReferenceIdeal.Hist.refV_at, hm, ← scale_eq]
    simp only [hj]
  funext i
  obtain ⟨j, rfl⟩ : ∃ j : Fin 8192, i = ix1 j := ⟨i 0, by funext d; fin_cases d; rfl⟩
  exact hat j

end Cert.KernelIdeal.Hist

end
-- ==== Proof.Same.lean ====
/- The kernel over the words: its program is the ideal program's text, so the same run is its frame. -/
module

public import proofs.«01_k».proof.Defs
public import proofs.«01_k».proof.Proof.Gen.Kernel
public import proofs.«01_k».proof.Proof.Launch

@[expose] public section

set_option maxRecDepth 16384

noncomputable section

namespace Cert.Kernel.Hist

open Idealize.ShloMosaic Idealize.ShloMosaic.TcCoe Idealize.SL.Sem

variable {F : FTy → Type} [FloatOps F]

/-- The two programs' kernel functions are one table. -/
theorem bodies_eq : Cert.Kernel.defs₀ (F := F) = Cert.KernelIdeal.defs₀ (F := F) := by
  unfold Cert.Kernel.defs₀ Cert.KernelIdeal.defs₀
  refine congrArg Defs.onTc ?_
  funext ℓ a
  obtain ⟨ℓ, hℓ⟩ := ℓ
  obtain rfl : ℓ = 0 := by have : ℓ < 1 := hℓ; omega
  rfl

/-- And so are their whole body tables. -/
theorem defs_eq : Cert.Kernel.defs (F := F) = Cert.KernelIdeal.defs (F := F) :=
  congrArg (Pipeline.defs (Cert.KernelIdeal.pcfgs (F := F))) bodies_eq

/-- Their main functions are one function. -/
theorem main_eq : Cert.Kernel.main (F := F) = Cert.KernelIdeal.main (F := F) := rfl

/-- The kernel runs, and leaves its arguments unchanged and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) := by
  rw [defs_eq]
  exact Cert.KernelIdeal.Hist.frame m ρ

end Cert.Kernel.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Same
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel over the words runs and leaves its arguments and every semaphore as they were. -/
theorem frame_kernel : quiescent_Kernel := fun m ρ _ => Cert.Kernel.Hist.frame m ρ

/-- So does the kernel over the extended reals. -/
theorem frame_ideal : quiescent_KernelIdeal := fun m ρ _ => Cert.KernelIdeal.Hist.frame m ρ

/-- So does the reference. -/
theorem frame_reference : quiescent_ReferenceIdeal := by
  intro m ρ _
  exact θ_run_mono (Cert.ReferenceIdeal.Value.run m ρ) fun r hr => ⟨fun c => (hr c).2, sem_eq_zero_of_no_sems (by decide) r.2⟩

/-- The kernel and the reference, from memories with the same arguments, end with the same result. -/
theorem same_result : algebraic_KernelIdeal_ReferenceIdeal := by
  intro m ρ m' ρ' _ hagree
  refine ⟨fun c => shapeCast Cert.KernelIdeal.S8192 (Cert.KernelIdeal.Hist.out m c) Cert.KernelIdeal.Gen.shapeCasts_S64x128_S8192,
    Cert.KernelIdeal.Hist.run m ρ, ?_⟩
  refine θ_run_mono (Cert.ReferenceIdeal.Value.run m' ρ') fun r hr c => ?_
  obtain ⟨hv, h0, h1⟩ := hr c
  refine ⟨hv.trans ?_, h0, h1⟩
  refine Eq.trans ?_ (Cert.KernelIdeal.Hist.result_eq m c).symm
  rw [(hagree c).1, (hagree c).2]
  rfl

theorem claim : Cert.Claim := ⟨Cert.Kernel.Gen.facts, Cert.KernelIdeal.Gen.facts, Cert.ReferenceIdeal.Gen.facts,
  frame_kernel, frame_ideal, frame_reference, trivial, same_result⟩

end Cert.Proof

end
